-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x1024 : Shape := ⟨2, ![1024, 1024]⟩
abbrev S16x1024x64 : Shape := ⟨3, ![16, 1024, 64]⟩
abbrev S_ : Shape := ⟨0, ![]⟩

class Facts : Prop where
  bcast_S_S1024x1024 : S_.BroadcastsInDim S1024x1024 (![] : Fin 0 → Fin S1024x1024.rank)
  bcast_S_S16x1024x64 : S_.BroadcastsInDim S16x1024x64 (![] : Fin 0 → Fin S16x1024x64.rank)

variable [Facts]

def fn {F : FTy → Type} [FloatOps F] (main_arg0 : FVec F S1024x1024 .f32) (main_arg1 : FVec F S16x1024x64 .f32) : IVec S1024x1024 1 × IVec S16x1024x64 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S16x1024x64 .f32 := Host.absf main_arg1
  let main_cst_0 : FVec F S_ .f32 := constant S_ .f32 0x7F800000#32
  let main_v4 : FVec F S16x1024x64 .f32 := broadcastInDim S16x1024x64 ![] bcast_S_S16x1024x64 main_cst_0
  let main_v5 : IVec S16x1024x64 1 := cmpf .olt main_v3 main_v4
  (main_v2, main_v5)
-- ==== Kernel.lean ====
abbrev S1024x1024 : Shape := ⟨2, ![1024, 1024]⟩
abbrev S16x1024x64 : Shape := ⟨3, ![16, 1024, 64]⟩
abbrev S1024x16x1024 : Shape := ⟨3, ![1024, 16, 1024]⟩
abbrev S1024x16 : Shape := ⟨2, ![1024, 16]⟩
abbrev S64x1024 : Shape := ⟨2, ![64, 1024]⟩
abbrev S64x16x1024 : Shape := ⟨3, ![64, 16, 1024]⟩
abbrev S64x16 : Shape := ⟨2, ![64, 16]⟩
abbrev S16x1024 : Shape := ⟨2, ![16, 1024]⟩
abbrev S1x1024x64 : Shape := ⟨3, ![1, 1024, 64]⟩
abbrev S1024x64 : Shape := ⟨2, ![1024, 64]⟩
abbrev S1024 : Shape := ⟨1, ![1024]⟩
abbrev S1024x1 : Shape := ⟨2, ![1024, 1]⟩
abbrev S64x64 : Shape := ⟨2, ![64, 64]⟩
abbrev S64 : Shape := ⟨1, ![64]⟩
abbrev S64x1 : Shape := ⟨2, ![64, 1]⟩
abbrev S1x1024 : Shape := ⟨2, ![1, 1024]⟩
abbrev S8x8x1024 : Shape := ⟨3, ![8, 8, 1024]⟩
abbrev S8x1x8x1024 : Shape := ⟨4, ![8, 1, 8, 1024]⟩
abbrev S8x8x8x1024 : Shape := ⟨4, ![8, 8, 8, 1024]⟩
abbrev S64x8x1024 : Shape := ⟨3, ![64, 8, 1024]⟩
abbrev S1024x16x1 : Shape := ⟨3, ![1024, 16, 1]⟩

abbrev nBuf : Space → Nat
  | .hbm => 5
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S16x1024x64, .f32⟩
  | .hbm, ⟨2, _⟩ => ⟨S1024x16x1024, .f32⟩
  | .hbm, ⟨3, _⟩ => ⟨S1024x16, .i32⟩
  | .hbm, ⟨4, _⟩ => ⟨S1024x16x1, .i32⟩
  | .local _ .vmem, ⟨0, _⟩ => ⟨S64x1024, .f32⟩
  | .local _ .vmem, ⟨1, _⟩ => ⟨S64x1024, .f32⟩
  | .local _ .vmem, ⟨2, _⟩ => ⟨S16x1024x64, .f32⟩
  | .local _ .vmem, ⟨3, _⟩ => ⟨S64x16x1024, .f32⟩
  | .local _ .vmem, ⟨4, _⟩ => ⟨S64x16x1024, .f32⟩
  | .local _ .vmem, ⟨5, _⟩ => ⟨S64x16, .i32⟩
  | .local _ .vmem, ⟨6, _⟩ => ⟨S64x16, .i32⟩
  | .local _ .vmem, ⟨7, _⟩ => ⟨S16x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x1024 : Shape := ⟨2, ![1024, 1024]⟩
abbrev S16x1024x64 : Shape := ⟨3, ![16, 1024, 64]⟩
abbrev S1024x16x64 : Shape := ⟨3, ![1024, 16, 64]⟩
abbrev S_ : Shape := ⟨0, ![]⟩
abbrev S1024x16 : Shape := ⟨2, ![1024, 16]⟩
abbrev S1024x16x1 : Shape := ⟨3, ![1024, 16, 1]⟩
abbrev S16x1024 : Shape := ⟨2, ![16, 1024]⟩
abbrev S16x1024x1024 : Shape := ⟨3, ![16, 1024, 1024]⟩
abbrev S1024x16x1024 : Shape := ⟨3, ![1024, 16, 1024]⟩
abbrev S1x16x1024 : Shape := ⟨3, ![1, 16, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S16x1024x64, .f32⟩
  | .hbm, ⟨2, _⟩ => ⟨S1024x16x64, .f32⟩
  | .hbm, ⟨3, _⟩ => ⟨S1024x16x64, .f32⟩
  | .hbm, ⟨4, _⟩ => ⟨S_, .f32⟩
  | .hbm, ⟨5, _⟩ => ⟨S1024x16, .f32⟩
  | .hbm, ⟨6, _⟩ => ⟨S1024x16x1, .f32⟩
  | .hbm, ⟨7, _⟩ => ⟨S16x1024x64, .f32⟩
  | .hbm, ⟨8, _⟩ => ⟨S_, .f32⟩
  | .hbm, ⟨9, _⟩ => ⟨S16x1024, .f32⟩
  | .hbm, ⟨10, _⟩ => ⟨S16x1024x1024, .f32⟩
  | .hbm, ⟨11, _⟩ => ⟨S1024x16x1024, .f32⟩
  | .hbm, ⟨12, _⟩ => ⟨S_, .f32⟩
  | .hbm, ⟨13, _⟩ => ⟨S1024x16x1024, .f32⟩
  | .hbm, ⟨14, _⟩ => ⟨S1024x16x1024, .f32⟩
  | .hbm, ⟨15, _⟩ => ⟨S1024x16x1024, .f32⟩
  | .hbm, ⟨16, _⟩ => ⟨S1024x16x1024, .f32⟩
  | .hbm, ⟨17, _⟩ => ⟨S1x16x1024, .f32⟩
  | .hbm, ⟨18, _⟩ => ⟨S1024x16x1024, .f32⟩
  | .hbm, ⟨19, _⟩ => ⟨S1024x16x1024, .f32⟩
  | .hbm, ⟨20, _⟩ => ⟨S1024x16x1024, .i32⟩
  | .hbm, ⟨21, _⟩ => ⟨S_, .f32⟩
  | .hbm, ⟨22, _⟩ => ⟨S_, .i32⟩
  | .hbm, ⟨23, _⟩ => ⟨S1024x16, .f32⟩
  | .hbm, ⟨24, _⟩ => ⟨S1024x16, .i32⟩
  | .hbm, ⟨25, _⟩ => ⟨S1024x16x1, .i32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.Distance.lean ====
/- The squared distance of a row piece to a codeword as the kernel computes it, and the law that moves the factor
   minus two into the sum on finite entries. -/
module
public import proofs.«01_k».proof.Defs
public import Idealize.ShloMosaic.Lib.Pointwise
@[expose] public section
set_option maxRecDepth 16384
noncomputable section
namespace Cert.Quantizer
open Idealize.ShloMosaic Idealize.ShloMosaic.TcCoe
open Cert.KernelIdeal

/-- The pattern of 2.0 denotes two. -/
theorem ofBits_two : Ideal.ofBits .f32 0x40000000#32 = ((2 : ℝ) : EReal) := by
  simp [Ideal.ofBits, Ideal.ieee, -EReal.coe_mul]; norm_num

/-- The pattern of -2.0 denotes minus two. -/
theorem ofBits_neg_two : Ideal.ofBits .f32 0xC0000000#32 = ((-2 : ℝ) : EReal) := by
  simp [Ideal.ofBits, Ideal.ieee, -EReal.coe_mul, -EReal.coe_neg]; norm_num

/-- A finite sum of real numbers, summed as extended reals. -/
theorem coe_sum (f : Fin 64 → ℝ) : ((∑ d, f d : ℝ) : EReal) = ∑ d, (f d : EReal) :=
  map_sum (⟨⟨Real.toEReal, EReal.coe_zero⟩, EReal.coe_add⟩ : ℝ →+ EReal) f Finset.univ

/-- Row `b`'s piece `c` against codeword `k` of group `c`: the sum of its squares, plus the sum of the products of its
    entries times minus two with the codeword's, plus the sum of the codeword's squares. -/
def sqDist (X : FVec Ideal S1024x1024 .f32) (C : FVec Ideal S16x1024x64 .f32) (b : Fin 1024) (c : Fin 16) (k : Fin 1024) : EReal :=
  ((∑ d : Fin 64, X (ix2 b ⟨c.val * 64 + d.val, by omega⟩) * X (ix2 b ⟨c.val * 64 + d.val, by omega⟩))
      + ∑ d : Fin 64, X (ix2 b ⟨c.val * 64 + d.val, by omega⟩) * Ideal.ofBits .f32 0xC0000000#32 * C (ix3 c k d))
    + ∑ d : Fin 64, C (ix3 c k d) * C (ix3 c k d)

/-- On finite entries, subtracting twice a sum of products is adding the sum of the products with one factor times
    minus two. -/
theorem sub_two_mul (a : EReal) (x y : Fin 64 → EReal) (hx : ∀ d, ∃ r : ℝ, x d = r) (hy : ∀ d, ∃ r : ℝ, y d = r) :
    a - Ideal.ofBits .f32 0x40000000#32 * ∑ d, y d * x d = a + ∑ d, x d * Ideal.ofBits .f32 0xC0000000#32 * y d := by
  choose u hu using hx
  choose v hv using hy
  obtain rfl : x = fun d => ((u d : ℝ) : EReal) := funext hu
  obtain rfl : y = fun d => ((v d : ℝ) : EReal) := funext hv
  have h1 : ∑ d, ((v d : ℝ) : EReal) * ((u d : ℝ) : EReal) = ((∑ d, v d * u d : ℝ) : EReal) := by
    rw [coe_sum]; exact Finset.sum_congr rfl fun d _ => (EReal.coe_mul _ _).symm
  have h2 : ∑ d, ((u d : ℝ) : EReal) * ((-2 : ℝ) : EReal) * ((v d : ℝ) : EReal) = ((∑ d, u d * (-2) * v d : ℝ) : EReal) := by
    rw [coe_sum]; exact Finset.sum_congr rfl fun d _ => by rw [EReal.coe_mul, EReal.coe_mul]
  rw [ofBits_two, ofBits_neg_two, h1, h2, sub_eq_add_neg, ← EReal.coe_mul, ← EReal.coe_neg]
  congr 2
  rw [Finset.mul_sum, ← Finset.sum_neg_distrib]
  exact Finset.sum_congr rfl fun d _ => by ring

/-- An extended real whose absolute value lies below infinity is a real number. -/
theorem exists_real (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

end Cert.Quantizer
-- ==== Proof.ArgMin.lean ====
/- Two ways to find the first position of the least entry of a row of 1024 extended reals, and why they agree: the
   least of the positions whose entry equals the row's minimum, and a fold that keeps the smaller (entry, position)
   pair. -/
module
public import proofs.«01_k».proof.Defs
public import Idealize.ShloMosaic.Lib.Pointwise
public import Idealize.ShloMosaic.Lib.WordCmp
@[expose] public section
set_option maxRecDepth 16384
noncomputable section
namespace Cert.Quantizer
open Idealize.ShloMosaic

/-- The bit pattern of positive infinity denotes the top element. -/
theorem ofBits_inf : Ideal.ofBits .f32 0x7F800000#32 = ⊤ := by simp [Ideal.ofBits, Ideal.ieee]

/-- The least, as signed words, of the positions whose entry equals the row's minimum. -/
def firstMin (f : Fin 1024 → EReal) : BitVec 32 :=
  Finset.fold IntOp.minsi 2147483647#32
    (fun x => if f x = Finset.fold min (Ideal.ofBits .f32 0x7F800000#32) f Finset.univ then BitVec.ofNat 32 x.val else 1024#32)
    Finset.univ

/-- `k` is the first position of a least entry of the row. -/
def IsFirst (f : Fin 1024 → EReal) (k : Fin 1024) : Prop := (∀ j, f k ≤ f j) ∧ ∀ j, f j = f k → k ≤ j

/-- Every row has a first position of a least entry. -/
theorem exists_isFirst (f : Fin 1024 → EReal) : ∃ k, IsFirst f k := by
  obtain ⟨m, hm⟩ := Finite.exists_min f
  obtain ⟨k, hk, hmin⟩ := (Finset.univ.filter fun k => f k = f m).exists_min_image id ⟨m, by simp⟩
  have hk' : f k = f m := (Finset.mem_filter.mp hk).2
  exact ⟨k, fun j => hk' ▸ hm j, fun j hj => hmin j (Finset.mem_filter.mpr ⟨Finset.mem_univ _, hj.trans hk'⟩)⟩

/-- A position read as a signed word is itself. -/
theorem toInt_pos (k : Fin 1024) : (BitVec.ofNat 32 k.val).toInt = (k.val : Int) :=
  WordCmp.toInt_ofNat_of_lt (by have := k.isLt; omega)

/-- The signed minimum of two words, in integers. -/
theorem minsi_toInt (a b : BitVec 32) : (IntOp.minsi a b).toInt = min a.toInt b.toInt := by
  unfold IntOp.minsi
  split <;> rename_i h
  · exact (min_eq_left (le_of_lt (by simpa [BitVec.slt] using h))).symm
  · exact (min_eq_right (by simpa [BitVec.slt] using h)).symm

/-- A fold of the signed minimum is a lower bound of its entries and is the start or one of them. -/
theorem fold_minsi {ι : Type} [DecidableEq ι] (s : Finset ι) (g : ι → BitVec 32) (z : BitVec 32) :
    (∀ i ∈ s, (s.fold IntOp.minsi z g).toInt ≤ (g i).toInt) ∧
      (s.fold IntOp.minsi z g = z ∨ ∃ i ∈ s, s.fold IntOp.minsi z g = g i) := by
  induction s using Finset.induction_on with
  | empty => exact ⟨fun i hi => absurd hi (Finset.notMem_empty i), Or.inl rfl⟩
  | insert a s ha ih =>
    rw [Finset.fold_insert ha]
    refine ⟨fun i hi => ?_, ?_⟩
    · rw [minsi_toInt]
      rcases Finset.mem_insert.mp hi with rfl | hi
      · exact min_le_left _ _
      · exact le_trans (min_le_right _ _) (ih.1 i hi)
    · by_cases h : (g a).slt (s.fold IntOp.minsi z g)
      · exact Or.inr ⟨a, Finset.mem_insert_self a s, by rw [IntOp.minsi, if_pos h]⟩
      · rw [IntOp.minsi, if_neg h]
        exact ih.2.imp id fun ⟨i, hi, e⟩ => ⟨i, Finset.mem_insert_of_mem hi, e⟩

/-- The minimum over the row, from the top element, is the entry at its first least position. -/
theorem fold_min_eq (f : Fin 1024 → EReal) (k : Fin 1024) (h : IsFirst f k) :
    Finset.fold min (Ideal.ofBits .f32 0x7F800000#32) f Finset.univ = f k := by
  rw [ofBits_inf]
  apply le_antisymm
  · exact (Finset.fold_min_le (f k)).mpr (Or.inr ⟨k, Finset.mem_univ _, le_rfl⟩)
  · exact (Finset.le_fold_min (f k)).mpr ⟨le_top, fun j _ => h.1 j⟩

/-- The first way gives the first least position. -/
theorem firstMin_eq (f : Fin 1024 → EReal) (k : Fin 1024) (h : IsFirst f k) : firstMin f = BitVec.ofNat 32 k.val := by
  unfold firstMin
  rw [fold_min_eq f k h]
  obtain ⟨hle, hmem⟩ := fold_minsi Finset.univ (fun x => if f x = f k then BitVec.ofNat 32 x.val else 1024#32) 2147483647#32
  have hk := hle k (Finset.mem_univ _)
  simp only [if_true, toInt_pos] at hk
  have hlt := k.isLt
  rcases hmem with e | ⟨i, -, e⟩
  · rw [e] at hk
    have : (2147483647#32).toInt = 2147483647 := by decide
    omega
  · rw [e] at hk ⊢
    by_cases hi : f i = f k
    · simp only [if_pos hi, toInt_pos] at hk ⊢
      have := h.2 i hi
      rw [show i = k from le_antisymm (Fin.le_def.mpr (by omega)) this]
    · simp only [if_neg hi] at hk
      have : (1024#32).toInt = 1024 := by decide
      omega

/-- The smaller of two (entry, position) pairs: by entry, equal entries by position. -/
def lesser (a b : EReal × BitVec 32) : EReal × BitVec 32 :=
  if a.1 < b.1 ∨ (a.1 = b.1 ∧ a.2.toInt < b.2.toInt) then a else b

/-- Pair `a` comes no later than pair `b`. -/
def NoLater (a b : EReal × BitVec 32) : Prop := a.1 < b.1 ∨ (a.1 = b.1 ∧ a.2.toInt ≤ b.2.toInt)

/-- A pair comes no later than itself. -/
theorem NoLater.refl (a : EReal × BitVec 32) : NoLater a a := Or.inr ⟨rfl, le_rfl⟩

/-- Coming no later passes from pair to pair. -/
theorem NoLater.trans {a b c : EReal × BitVec 32} (h : NoLater a b) (h' : NoLater b c) : NoLater a c := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

/-- The smaller pair comes no later than either and is one of the two. -/
theorem lesser_spec (a b : EReal × BitVec 32) :
    NoLater (lesser a b) a ∧ NoLater (lesser a b) b ∧ (lesser a b = a ∨ lesser a b = b) := by
  unfold lesser
  split <;> rename_i h
  · exact ⟨NoLater.refl a, h.imp id fun h => ⟨h.1, h.2.le⟩, Or.inl rfl⟩
  · refine ⟨?_, NoLater.refl b, Or.inr rfl⟩
    push Not at h
    rcases lt_or_eq_of_le h.1 with h1 | h1
    · exact Or.inl h1
    · exact Or.inr ⟨h1, h.2 h1.symm⟩

/-- The fold over a list comes no later than its start and every entry and is one of them. -/
theorem foldl_lesser (L : List (EReal × BitVec 32)) (z : EReal × BitVec 32) :
    NoLater (L.foldl lesser z) z ∧ (∀ p ∈ L, NoLater (L.foldl lesser z) p) ∧
      (L.foldl lesser z = z ∨ L.foldl lesser z ∈ L) := by
  induction L generalizing z with
  | nil => exact ⟨NoLater.refl z, fun p hp => absurd hp List.not_mem_nil, Or.inl rfl⟩
  | cons a L ih =>
    obtain ⟨h1, h2, h3⟩ := ih (lesser z a)
    obtain ⟨g1, g2, g3⟩ := lesser_spec z a
    rw [List.foldl_cons]
    refine ⟨h1.trans g1, fun p hp => ?_, ?_⟩
    · rcases List.mem_cons.mp hp with rfl | hp
      · exact h1.trans g2
      · exact h2 p hp
    · rcases h3 with h3 | h3
      · rcases g3 with g3 | g3
        · exact Or.inl (h3.trans g3)
        · exact Or.inr (List.mem_cons.mpr (Or.inl (h3.trans g3)))
      · exact Or.inr (List.mem_cons_of_mem _ h3)

/-- The second way: folded from (infinity, 0) over any list that holds exactly the pairs (entry, position) of the row,
    it gives the first least position. -/
theorem foldl_lesser_eq (f : Fin 1024 → EReal) (L : List (EReal × BitVec 32))
    (hL : ∀ p, p ∈ L ↔ ∃ k : Fin 1024, p = (f k, BitVec.ofNat 32 k.val)) :
    (L.foldl lesser (⊤, 0#32)).2 = firstMin f := by
  obtain ⟨k, hk⟩ := exists_isFirst f
  rw [firstMin_eq f k hk]
  obtain ⟨-, h2, h3⟩ := foldl_lesser L (⊤, 0#32)
  have hk2 := h2 _ ((hL _).mpr ⟨k, rfl⟩)
  rcases h3 with e | e
  · rw [e] at hk2 ⊢
    rcases hk2 with h | ⟨h, -⟩
    · exact absurd h (not_lt.mpr le_top)
    · have h0 : f 0 = f k := by
        apply le_antisymm
        · have : f k = ⊤ := h.symm
          rw [this]; exact le_top
        · exact hk.1 0
      have := hk.2 0 h0
      have hk0 : k = 0 := le_antisymm this (Fin.zero_le _)
      rw [hk0]; rfl
  · obtain ⟨i, hi⟩ := (hL _).mp e
    rw [hi] at hk2 ⊢
    rcases hk2 with h | ⟨h, h'⟩
    · exact absurd h (not_lt.mpr (hk.1 i))
    · have hik := hk.2 i h
      simp only [toInt_pos] at h'
      rw [show i = k from le_antisymm (Fin.le_def.mpr (by omega)) hik]

/-- The reference's reduction step is that choice of the smaller pair. -/
theorem reducer_eq (a b : EReal × BitVec 32) :
    Cert.ReferenceIdeal.reducer_argmin_f32_i32 (F := Ideal) a b = lesser a b := by
  obtain ⟨a1, a2⟩ := a
  obtain ⟨b1, b2⟩ := b
  have e : IntOp.cmpi .slt a2 b2 = BitVec.ofBool (decide (a2.toInt < b2.toInt)) := rfl
  simp only [Cert.ReferenceIdeal.reducer_argmin_f32_i32, lesser, Scalar.select, Ideal.cmpf_def, Ideal.cmp, e,
    WordCmp.ori_ofBool, WordCmp.andi_ofBool]
  by_cases h1 : a1 < b1
  · simp [h1]
  · by_cases h2 : a1 = b1
    · subst h2
      by_cases h3 : a2.toInt < b2.toInt
      · simp [h3]
      · simp [h3]
    · simp [h1, h2]

end Cert.Quantizer
-- ==== Proof.Butterfly.lean ====
/- The exchange network of the kernel: eight tiles go in, and tile `s` comes out as slot `s` of one block. -/
module
public import proofs.«01_k».proof.Defs
public import proofs.«01_k».proof.Proof.Gen.KernelIdeal.Skeleton
public import Idealize.ShloMosaic.Lib.Pointwise
public import Idealize.ShloMosaic.Lib.WordCmp
@[expose] public section
set_option maxRecDepth 16384
noncomputable section
namespace Cert.KernelIdeal.Value
open Idealize.ShloMosaic Idealize.ShloMosaic.TcCoe Idealize.SL.Sem
open Cert.KernelIdeal Cert.KernelIdeal.Gen

/-- One tile: 8 row groups, 8 slots, 1024 codewords. -/
abbrev Tile := FVec Ideal S8x8x1024 .f32

/-- The lower output of an exchange: `a` where the slot's bit is clear, the rotated `b` elsewhere. -/
def lo (bit rot : BitVec 32) (a b : Tile) : Tile :=
  select (cmpi .eq (andi (iota .tc S8x8x1024 32 [1] iota_S8x8x1024_d1_w32) (broadcast S8x8x1024 bit))
      (broadcast S8x8x1024 0#32))
    a (dynamicRotate 1 rot none b rotates_S8x8x1024_d1)

/-- The upper output of an exchange: the rotated `a` where the slot's bit is clear, `b` elsewhere. -/
def hi (bit rot : BitVec 32) (a b : Tile) : Tile :=
  select (cmpi .eq (andi (iota .tc S8x8x1024 32 [1] iota_S8x8x1024_d1_w32) (broadcast S8x8x1024 bit))
      (broadcast S8x8x1024 0#32))
    (dynamicRotate 1 rot none a rotates_S8x8x1024_d1) b

/-- The lower output read at an element. -/
theorem lo_apply (bit rot : BitVec 32) (a b : Tile) (r s : Fin 8) (k : Fin 1024) :
    lo bit rot a b (ix3 r s k) = if BitVec.ofNat 32 s.val &&& bit = 0#32 then a (ix3 r s k)
      else b (ix3 r ⟨(s.val + 8 - rot.toNat % 8) % 8, Nat.mod_lt _ (by decide)⟩ k) := by
  pointwise [lo]
  rw [Scalar.select, WordCmp.cmpi_eq_eq]
  exact if_congr (WordCmp.ofBool_decide_eq_one_iff _) rfl rfl

/-- The upper output read at an element. -/
theorem hi_apply (bit rot : BitVec 32) (a b : Tile) (r s : Fin 8) (k : Fin 1024) :
    hi bit rot a b (ix3 r s k) = if BitVec.ofNat 32 s.val &&& bit = 0#32 then
      a (ix3 r ⟨(s.val + 8 - rot.toNat % 8) % 8, Nat.mod_lt _ (by decide)⟩ k) else b (ix3 r s k) := by
  pointwise [hi]
  rw [Scalar.select, WordCmp.cmpi_eq_eq]
  exact if_congr (WordCmp.ofBool_decide_eq_one_iff _) rfl rfl

/-- First stage: tiles four apart exchange. -/
def step4 (v : Fin 8 → Tile) : Fin 8 → Tile :=
  ![lo 4 4 (v 0) (v 4), lo 4 4 (v 1) (v 5), lo 4 4 (v 2) (v 6), lo 4 4 (v 3) (v 7),
    hi 4 4 (v 0) (v 4), hi 4 4 (v 1) (v 5), hi 4 4 (v 2) (v 6), hi 4 4 (v 3) (v 7)]

/-- Second stage: tiles two apart exchange. -/
def step2 (v : Fin 8 → Tile) : Fin 8 → Tile :=
  ![lo 2 2 (v 0) (v 2), lo 2 2 (v 1) (v 3), hi 2 6 (v 0) (v 2), hi 2 6 (v 1) (v 3),
    lo 2 2 (v 4) (v 6), lo 2 2 (v 5) (v 7), hi 2 6 (v 4) (v 6), hi 2 6 (v 5) (v 7)]

/-- Third stage: neighbouring tiles exchange. -/
def step1 (v : Fin 8 → Tile) : Fin 8 → Tile :=
  ![lo 1 1 (v 0) (v 1), hi 1 7 (v 0) (v 1), lo 1 1 (v 2) (v 3), hi 1 7 (v 2) (v 3),
    lo 1 1 (v 4) (v 5), hi 1 7 (v 4) (v 5), lo 1 1 (v 6) (v 7), hi 1 7 (v 6) (v 7)]

/-- The (tile, slot) a stage that exchanges one bit reads for its output at (tile `c`, slot `s`). -/
def src (bit c s : Fin 8) : Fin 8 × Fin 8 :=
  if c &&& bit = s &&& bit then (c, s) else (c ^^^ bit, s ^^^ bit)

seal lo hi in
/-- The first stage at an element. -/
theorem step4_apply (v : Fin 8 → Tile) (c r s : Fin 8) (k : Fin 1024) :
    step4 v c (ix3 r s k) = v (src 4 c s).1 (ix3 r (src 4 c s).2 k) := by
  fin_cases c <;> (first | refine (lo_apply 4 4 _ _ r s k).trans ?_ | refine (hi_apply 4 4 _ _ r s k).trans ?_) <;>
    fin_cases s <;> rfl

seal lo hi in
/-- The second stage at an element. -/
theorem step2_apply (v : Fin 8 → Tile) (c r s : Fin 8) (k : Fin 1024) :
    step2 v c (ix3 r s k) = v (src 2 c s).1 (ix3 r (src 2 c s).2 k) := by
  fin_cases c <;> (first | refine (lo_apply 2 2 _ _ r s k).trans ?_ | refine (hi_apply 2 6 _ _ r s k).trans ?_) <;>
    fin_cases s <;> rfl

seal lo hi in
/-- The third stage at an element. -/
theorem step1_apply (v : Fin 8 → Tile) (c r s : Fin 8) (k : Fin 1024) :
    step1 v c (ix3 r s k) = v (src 1 c s).1 (ix3 r (src 1 c s).2 k) := by
  fin_cases c <;> (first | refine (lo_apply 1 1 _ _ r s k).trans ?_ | refine (hi_apply 1 7 _ _ r s k).trans ?_) <;>
    fin_cases s <;> rfl

/-- Following the three stages back from (c, s) ends at (s, c). -/
theorem src_swap : ∀ c s : Fin 8,
    src 4 (src 2 (src 1 c s).1 (src 1 c s).2).1 (src 2 (src 1 c s).1 (src 1 c s).2).2 = (s, c) := by decide

/-- The whole network swaps the tile number with the slot number. -/
theorem steps_apply (v : Fin 8 → Tile) (c r s : Fin 8) (k : Fin 1024) :
    step1 (step2 (step4 v)) c (ix3 r s k) = v s (ix3 r c k) := by
  rw [step1_apply, step2_apply, step4_apply, src_swap]

/-- The block the kernel stores: the network's eight tiles side by side, read as 64 rows of 8 slots. -/
def untangle (v : Fin 8 → Tile) : FVec Ideal S64x8x1024 .f32 :=
  shapeCast S64x8x1024 (concatenate S8x8x8x1024 1
    [⟨S8x1x8x1024, shapeCast S8x1x8x1024 (step1 (step2 (step4 v)) 0) shapeCasts_S8x8x1024_S8x1x8x1024⟩,
     ⟨S8x1x8x1024, shapeCast S8x1x8x1024 (step1 (step2 (step4 v)) 1) shapeCasts_S8x8x1024_S8x1x8x1024⟩,
     ⟨S8x1x8x1024, shapeCast S8x1x8x1024 (step1 (step2 (step4 v)) 2) shapeCasts_S8x8x1024_S8x1x8x1024⟩,
     ⟨S8x1x8x1024, shapeCast S8x1x8x1024 (step1 (step2 (step4 v)) 3) shapeCasts_S8x8x1024_S8x1x8x1024⟩,
     ⟨S8x1x8x1024, shapeCast S8x1x8x1024 (step1 (step2 (step4 v)) 4) shapeCasts_S8x8x1024_S8x1x8x1024⟩,
     ⟨S8x1x8x1024, shapeCast S8x1x8x1024 (step1 (step2 (step4 v)) 5) shapeCasts_S8x8x1024_S8x1x8x1024⟩,
     ⟨S8x1x8x1024, shapeCast S8x1x8x1024 (step1 (step2 (step4 v)) 6) shapeCasts_S8x8x1024_S8x1x8x1024⟩,
     ⟨S8x1x8x1024, shapeCast S8x1x8x1024 (step1 (step2 (step4 v)) 7) shapeCasts_S8x8x1024_S8x1x8x1024⟩]
    concatenates_S8x1x8x1024_S8x1x8x1024_S8x1x8x1024_S8x1x8x1024_S8x1x8x1024_S8x1x8x1024_S8x1x8x1024_S8x1x8x1024_S8x8x8x1024_d1)
    shapeCasts_S8x8x8x1024_S64x8x1024

/-- Row `i`, slot `s` of the stored block is row `i` of tile `s`, the tile's 64 rows being 8 groups of 8. -/
theorem untangle_apply (v : Fin 8 → Tile) (i : Fin 64) (s : Fin 8) (k : Fin 1024) :
    untangle v (ix3 i s k) = v s (ix3 ⟨i.val / 8, by omega⟩ ⟨i.val % 8, by omega⟩ k) := by
  have h := fun (c : Fin 8) => steps_apply v c ⟨i.val / 8, by omega⟩ s k
  unfold untangle
  generalize step1 (step2 (step4 v)) = w at h ⊢
  obtain ⟨c, hc⟩ : ∃ c : Fin 8, (⟨i.val % 8, by omega⟩ : Fin 8) = c := ⟨_, rfl⟩
  have hv : i.val % 8 = c.val := congrArg Fin.val hc
  rw [hc, ← h]
  pointwise
  simp only [hv]
  fin_cases c <;> rfl

end Cert.KernelIdeal.Value
-- ==== Proof.Tiles.lean ====
/- The kernel's two chains over one group's tile — the squared distances of 64 rows to 1024 codewords, and the position
   of the least distance of each row — read at an element. -/
module
public import proofs.«01_k».proof.Defs
public import proofs.«01_k».proof.Proof.Gen.KernelIdeal.Skeleton
public import proofs.«01_k».proof.Proof.ArgMin
public import proofs.«01_k».proof.Proof.Butterfly
public import Idealize.ShloMosaic.Lib.Pointwise
public import Idealize.ShloMosaic.Lib.WordCmp
@[expose] public section
set_option maxRecDepth 16384
noncomputable section
namespace Cert.KernelIdeal.Value
open Idealize.ShloMosaic Idealize.ShloMosaic.TcCoe Idealize.SL.Sem
open Cert.KernelIdeal Cert.KernelIdeal.Gen Cert.Quantizer

/-- The chain for the distances: row sums of squares, plus the contraction of the scaled rows with the codewords, plus
    the stored sums of the codewords' squares. -/
def distTile (xc xm : FVec Ideal S64x64 .f32) (w : FVec Ideal S1x1024x64 .f32) (q : FVec Ideal S1x1024 .f32) :
    FVec Ideal S64x1024 .f32 :=
  addf (addf (broadcastTo S64x1024 (shapeCast S64x1 (multiReduction .add [1] S64 (mulf xc xc) 0x00000000#32
      reduces_S64x64_S64 (.inl rfl) rfl) shapeCasts_S64_S64x1) broadcasts_S64x1_S64x1024)
    (matmul dot_S64x64_S1024x64_S64x1024_1_1_0_0_n_n none xm (shapeCast S1024x64 w shapeCasts_S1x1024x64_S1024x64)
      (constant S64x1024 .f32 0x00000000#32)))
    (broadcastTo S64x1024 (shapeCast S1x1024 (shapeCast S1024 q shapeCasts_S1x1024_S1024) shapeCasts_S1024_S1x1024)
      broadcasts_S1x1024_S64x1024)

/-- The distance chain read at (row, codeword). -/
theorem distTile_apply (xc xm : FVec Ideal S64x64 .f32) (w : FVec Ideal S1x1024x64 .f32) (q : FVec Ideal S1x1024 .f32)
    (r : Fin 64) (k : Fin 1024) :
    distTile xc xm w q (ix2 r k)
      = ((∑ d : Fin 64, xc (ix2 r d) * xc (ix2 r d)) + ∑ d : Fin 64, xm (ix2 r d) * w (ix3 0 k d)) + q (ix2 0 k) := by
  pointwise [distTile]

/-- The chain for the position of the least entry of each row. -/
def argTile (D : FVec Ideal S64x1024 .f32) : IVec S64x1 32 :=
  shapeCast S64x1 (multiReductionI .minsi [1] S64
    (select (cmpf .oeq D (broadcastTo S64x1024 (shapeCast S64x1 (multiReduction .minimumf [1] S64 D 0x7F800000#32
        reduces_S64x1024_S64 (.inl rfl) rfl) shapeCasts_S64_S64x1) broadcasts_S64x1_S64x1024))
      (iota .tc S64x1024 32 [1] iota_S64x1024_d1_w32) (broadcast S64x1024 1024#32))
    2147483647#32 reduces_S64x1024_S64 rfl) shapeCasts_S64_S64x1

/-- The position chain read at a row. -/
theorem argTile_apply (D : FVec Ideal S64x1024 .f32) (r : Fin 64) :
    argTile D (ix2 r 0) = firstMin (fun k => D (ix2 r k)) := by
  pointwise [argTile, firstMin]

/-- The distance from the three blocks a grid point reads: row `r` of the point's rows, group `c`, codeword `k`. -/
def blkDist (x0 : FVec Ideal S64x1024 .f32) (x1 : FVec Ideal S16x1024x64 .f32) (xs : FVec Ideal S16x1024 .f32)
    (r : Fin 64) (c : Fin 16) (k : Fin 1024) : EReal :=
  ((∑ d : Fin 64, x0 (ix2 r ⟨c.val * 64 + d.val, by omega⟩) * x0 (ix2 r ⟨c.val * 64 + d.val, by omega⟩))
      + ∑ d : Fin 64, x0 (ix2 r ⟨c.val * 64 + d.val, by omega⟩) * Ideal.ofBits .f32 0xC0000000#32 * x1 (ix3 c k d))
    + xs (ix2 c k)

/-- Group `c`'s tile, cut from the point's rows at the group's columns. -/
theorem distTile_at (x0 : FVec Ideal S64x1024 .f32) (x1 : FVec Ideal S16x1024x64 .f32) (xs : FVec Ideal S16x1024 .f32)
    (o : Nat) (hs : S64x1024.Slices ![0, o] S64x64) (w : FVec Ideal S1x1024x64 .f32) (q : FVec Ideal S1x1024 .f32) (c : Fin 16)
    (ho : o = c.val * 64) (hw : ∀ k d, w (ix3 0 k d) = x1 (ix3 c k d)) (hq : ∀ k, q (ix2 0 k) = xs (ix2 c k))
    (r : Fin 64) (k : Fin 1024) :
    distTile (extractStridedSlice S64x64 ![0, o] x0 hs) (extractStridedSlice S64x64 ![0, o] (k0_pay18 x0) hs) w q (ix2 r k)
      = blkDist x0 x1 xs r c k := by
  subst ho
  rw [distTile_apply, hq]
  simp only [hw]
  pointwise [blkDist, k0_pay18]

/-- The positions stored for group `c`. -/
theorem argTile_at (x0 : FVec Ideal S64x1024 .f32) (x1 : FVec Ideal S16x1024x64 .f32) (xs : FVec Ideal S16x1024 .f32)
    (o : Nat) (hs : S64x1024.Slices ![0, o] S64x64) (w : FVec Ideal S1x1024x64 .f32) (q : FVec Ideal S1x1024 .f32) (c : Fin 16)
    (ho : o = c.val * 64) (hw : ∀ k d, w (ix3 0 k d) = x1 (ix3 c k d)) (hq : ∀ k, q (ix2 0 k) = xs (ix2 c k))
    (x : S64x1.Idx) (r : Fin 64) (hr : r.val = (x 0).val) :
    argTile (distTile (extractStridedSlice S64x64 ![0, o] x0 hs) (extractStridedSlice S64x64 ![0, o] (k0_pay18 x0) hs) w q) x
      = firstMin (blkDist x0 x1 xs r c) := by
  obtain rfl : x = ix2 r 0 := by
    refine (eq_ix2 x).trans (congrArg₂ ix2 (Fin.ext hr.symm) (Fin.ext ?_))
    have h1 : (x 1).val < 1 := (x 1).isLt
    exact Nat.lt_one_iff.mp h1
  rw [argTile_apply]
  exact congrArg firstMin (funext fun k => distTile_at x0 x1 xs o hs w q c ho hw hq r k)

/-- A group's tile read as 8 row groups of 8 rows. -/
theorem distTile8_at (x0 : FVec Ideal S64x1024 .f32) (x1 : FVec Ideal S16x1024x64 .f32) (xs : FVec Ideal S16x1024 .f32)
    (o : Nat) (hs : S64x1024.Slices ![0, o] S64x64) (w : FVec Ideal S1x1024x64 .f32) (q : FVec Ideal S1x1024 .f32) (c : Fin 16)
    (ho : o = c.val * 64) (hw : ∀ k d, w (ix3 0 k d) = x1 (ix3 c k d)) (hq : ∀ k, q (ix2 0 k) = xs (ix2 c k))
    (i : Fin 64) (k : Fin 1024) :
    shapeCast S8x8x1024 (distTile (extractStridedSlice S64x64 ![0, o] x0 hs)
        (extractStridedSlice S64x64 ![0, o] (k0_pay18 x0) hs) w q) shapeCasts_S64x1024_S8x8x1024
        (ix3 ⟨i.val / 8, by omega⟩ ⟨i.val % 8, by omega⟩ k)
      = blkDist x0 x1 xs i c k := by
  refine Eq.trans ?_ (distTile_at x0 x1 xs o hs w q c ho hw hq i k)
  pointwise

/-- A stored block of eight groups from group `o` on, when the network's tile `s` holds group `o + s`. -/
theorem untangle_at (x0 : FVec Ideal S64x1024 .f32) (x1 : FVec Ideal S16x1024x64 .f32) (xs : FVec Ideal S16x1024 .f32)
    (v : Fin 8 → Tile) (o : Nat) (ho : o ≤ 8)
    (hv : ∀ (s : Fin 8) (i : Fin 64) (k : Fin 1024), v s (ix3 ⟨i.val / 8, by omega⟩ ⟨i.val % 8, by omega⟩ k)
      = blkDist x0 x1 xs i ⟨o + s.val, by omega⟩ k)
    (x : S64x8x1024.Idx) (r : Fin 64) (c : Fin 16) (k : Fin 1024) (hr : r.val = (x 0).val) (hc : c.val = o + (x 1).val)
    (hk : k.val = (x 2).val) : untangle v x = blkDist x0 x1 xs r c k := by
  obtain ⟨i, s, l, rfl⟩ : ∃ (i : Fin 64) (s : Fin 8) (l : Fin 1024), x = ix3 i s l := ⟨x 0, x 1, x 2, eq_ix3 x⟩
  obtain rfl : r = i := Fin.ext hr
  obtain rfl : k = l := Fin.ext hk
  have e : c = ⟨o + s.val, by omega⟩ := Fin.ext hc
  rw [untangle_apply, hv, ← e]

end Cert.KernelIdeal.Value
-- ==== Proof.Points.lean ====
/- What one grid point leaves in its two output blocks, from the three blocks it reads. -/
module
public import proofs.«01_k».proof.Defs
public import proofs.«01_k».proof.Proof.Gen.KernelIdeal.Frame
public import proofs.«01_k».proof.Proof.Tiles
public import Idealize.ShloMosaic.Lib.Pipeline.ValueKit
public import Idealize.ShloMosaic.Lib.Pipeline.ReadBack
public import Idealize.ShloMosaic.Lib.Pointwise
public import Idealize.ShloMosaic.Lib.WordCmp
@[expose] public section
set_option maxRecDepth 16384
noncomputable section
namespace Cert.KernelIdeal.Value
open Idealize.ShloMosaic Idealize.ShloMosaic.TcCoe Idealize.SL.Sem
open Idealize.ShloMosaic.Pipeline (Dat)
open Cert.KernelIdeal Cert.KernelIdeal.Gen Cert.Quantizer
variable (m : (ℓ : Loc nD τ sig) → Buf (Elt Ideal) ℓ)

/-- The positions stored at the first point, which computes the scratch array it then reads. -/
theorem positions_first (c : Dev nD) (t : Fin cfg0.N) (h0 : t.val % 16 = 0) (y : S64x16.Idx) :
    (outsAt0 m c t.val t.isLt).2.1 y = firstMin (blkDist (iblk m c 0 t) (iblk m c 1 t)
      (outsAt0 m c t.val t.isLt).2.2 (y 0) (y 1)) := by
  rw [outsAt0_A m c t h0]
  frame_out
  generalize (iblk m c 0 t) = X0
  generalize (iblk m c 1 t) = X1
  canon_tiles x h
  all_goals
    refine argTile_at X0 X1 _ _ (by decide) _ _ (y 1) (by omega) (fun k d => ?_) (fun k => ?_) x (y 0) h0
    · pointwise; blk_ext
    · refine (congrFun (View.readCov_fill _ _ _ _ _ (by decide)) _).trans ?_
      pointwise; blk_ext

/-- The positions stored at a later point, which reads the scratch array left before it. -/
theorem positions_later (c : Dev nD) (t : Fin cfg0.N) (h0 : ¬ t.val % 16 = 0) (y : S64x16.Idx) :
    (outsAt0 m c t.val t.isLt).2.1 y = firstMin (blkDist (iblk m c 0 t) (iblk m c 1 t)
      (outsAt0 m c t.val t.isLt).2.2 (y 0) (y 1)) := by
  rw [outsAt0_B m c t h0]
  frame_out
  generalize (iblk m c 0 t) = X0
  generalize (iblk m c 1 t) = X1
  generalize (outsAt0 m c (t.val - 1) (Nat.lt_of_le_of_lt (Nat.sub_le _ _) t.isLt)).2.2 = XS
  canon_tiles x h
  all_goals
    refine argTile_at X0 X1 XS _ (by decide) _ _ (y 1) (by omega) (fun k d => ?_) (fun k => ?_) x (y 0) h0
    · pointwise; blk_ext
    · simp only [(Memref.isWhole_whole _).read_unread, read_unread_whole]
      pointwise; blk_ext

/-- The distances stored at the first point. -/
theorem distances_first (c : Dev nD) (t : Fin cfg0.N) (h0 : t.val % 16 = 0) (y : S64x16x1024.Idx) :
    (outsAt0 m c t.val t.isLt).1 y = blkDist (iblk m c 0 t) (iblk m c 1 t)
      (outsAt0 m c t.val t.isLt).2.2 (y 0) (y 1) (y 2) := by
  rw [outsAt0_A m c t h0]
  frame_out
  generalize (iblk m c 0 t) = X0
  generalize (iblk m c 1 t) = X1
  canon_tiles x h
  all_goals
    refine Eq.trans (b := untangle ![_, _, _, _, _, _, _, _] x) rfl ?_
    first
    | refine untangle_at X0 X1 _ _ 8 (by decide) (fun s i k => ?_) x (y 0) (y 1) (y 2) (by omega) (by omega) (by omega)
    | refine untangle_at X0 X1 _ _ 0 (by decide) (fun s i k => ?_) x (y 0) (y 1) (y 2) (by omega) (by omega) (by omega)
    fin_cases s <;> (
      refine distTile8_at X0 X1 _ _ (by decide) _ _ _ (by decide) (fun k d => ?_) (fun k => ?_) i k
      · pointwise; try blk_ext
      · refine (congrFun (View.readCov_fill _ _ _ _ _ (by decide)) _).trans ?_
        pointwise; try blk_ext)

/-- The distances stored at a later point. -/
theorem distances_later (c : Dev nD) (t : Fin cfg0.N) (h0 : ¬ t.val % 16 = 0) (y : S64x16x1024.Idx) :
    (outsAt0 m c t.val t.isLt).1 y = blkDist (iblk m c 0 t) (iblk m c 1 t)
      (outsAt0 m c t.val t.isLt).2.2 (y 0) (y 1) (y 2) := by
  rw [outsAt0_B m c t h0]
  frame_out
  generalize (iblk m c 0 t) = X0
  generalize (iblk m c 1 t) = X1
  generalize (outsAt0 m c (t.val - 1) (Nat.lt_of_le_of_lt (Nat.sub_le _ _) t.isLt)).2.2 = XS
  canon_tiles x h
  all_goals
    refine Eq.trans (b := untangle ![_, _, _, _, _, _, _, _] x) rfl ?_
    first
    | refine untangle_at X0 X1 XS _ 8 (by decide) (fun s i k => ?_) x (y 0) (y 1) (y 2) (by omega) (by omega) (by omega)
    | refine untangle_at X0 X1 XS _ 0 (by decide) (fun s i k => ?_) x (y 0) (y 1) (y 2) (by omega) (by omega) (by omega)
    fin_cases s <;> (
      refine distTile8_at X0 X1 XS _ (by decide) _ _ _ (by decide) (fun k d => ?_) (fun k => ?_) i k
      · pointwise; try blk_ext
      · simp only [(Memref.isWhole_whole _).read_unread, read_unread_whole]
        pointwise; try blk_ext)

/-- The positions stored at any point, over the scratch array the point leaves. -/
theorem positions (c : Dev nD) (t : Fin cfg0.N) (y : S64x16.Idx) :
    (outsAt0 m c t.val t.isLt).2.1 y = firstMin (blkDist (iblk m c 0 t) (iblk m c 1 t)
      (outsAt0 m c t.val t.isLt).2.2 (y 0) (y 1)) := by
  by_cases h0 : t.val % 16 = 0
  · exact positions_first m c t h0 y
  · exact positions_later m c t h0 y

/-- The distances stored at any point, over the scratch array the point leaves. -/
theorem distances (c : Dev nD) (t : Fin cfg0.N) (y : S64x16x1024.Idx) :
    (outsAt0 m c t.val t.isLt).1 y = blkDist (iblk m c 0 t) (iblk m c 1 t)
      (outsAt0 m c t.val t.isLt).2.2 (y 0) (y 1) (y 2) := by
  by_cases h0 : t.val % 16 = 0
  · exact distances_first m c t h0 y
  · exact distances_later m c t h0 y

end Cert.KernelIdeal.Value
-- ==== Proof.CodeSums.lean ====
/- The scratch array: the sums of the squares of the codewords' entries, one row per group. -/
module
public import proofs.«01_k».proof.Defs
public import proofs.«01_k».proof.Proof.Gen.KernelIdeal.Frame
public import Idealize.ShloMosaic.Lib.Pipeline.ValueKit
public import Idealize.ShloMosaic.Lib.Pointwise
public import Idealize.ShloMosaic.Lib.WordCmp
@[expose] public section
set_option maxRecDepth 16384
noncomputable section
namespace Cert.KernelIdeal.Value
open Idealize.ShloMosaic Idealize.ShloMosaic.TcCoe Idealize.SL.Sem
open Idealize.ShloMosaic.Pipeline (Dat)
open Cert.KernelIdeal Cert.KernelIdeal.Gen
variable (m : (ℓ : Loc nD τ sig) → Buf (Elt Ideal) ℓ)

/-- The array the first grid point stores, from the sixteen groups' codewords: row `g` holds group `g`'s sums. -/
theorem sums_apply (w : Fin 16 → FVec Ideal S1x1024x64 .f32) (g : Fin 16) (k : Fin 1024) :
    k0_pay17 (k0_pay2 (w 0)) (k0_pay3 (w 1)) (k0_pay4 (w 2)) (k0_pay5 (w 3)) (k0_pay6 (w 4)) (k0_pay7 (w 5)) (k0_pay8 (w 6))
        (k0_pay9 (w 7)) (k0_pay10 (w 8)) (k0_pay11 (w 9)) (k0_pay12 (w 10)) (k0_pay13 (w 11)) (k0_pay14 (w 12))
        (k0_pay15 (w 13)) (k0_pay16 (w 14)) (w 15) (ix2 g k)
      = ∑ d : Fin 64, w g (ix3 0 k d) * w g (ix3 0 k d) := by
  pointwise [k0_pay17, k0_pay2, k0_pay3, k0_pay4, k0_pay5, k0_pay6, k0_pay7, k0_pay8, k0_pay9, k0_pay10, k0_pay11, k0_pay12,
    k0_pay13, k0_pay14, k0_pay15, k0_pay16]
  fin_cases g <;> rfl

/-- The same array from the sixteen row blocks of one codebook. -/
theorem sums_of_blocks (X : FVec Ideal S16x1024x64 .f32) (w : Fin 16 → FVec Ideal S1x1024x64 .f32)
    (hw : ∀ g k d, w g (ix3 0 k d) = X (ix3 g k d)) (g : Fin 16) (k : Fin 1024) :
    ∑ d : Fin 64, w g (ix3 0 k d) * w g (ix3 0 k d) = ∑ d : Fin 64, X (ix3 g k d) * X (ix3 g k d) :=
  Finset.sum_congr rfl fun d _ => by rw [hw]

/-- What the first grid point leaves in the scratch array. -/
theorem scratch_first (c : Dev nD) (t : Fin cfg0.N) (h0 : t.val % 16 = 0) (g : Fin 16) (k : Fin 1024) :
    (outsAt0 m c t.val t.isLt).2.2 (ix2 g k) = ∑ d : Fin 64, (show EReal from iblk m c 1 t (ix3 g k d)) * (show EReal from iblk m c 1 t (ix3 g k d)) := by
  rw [outsAt0_A m c t h0]
  frame_out
  generalize iblk m c 1 t = X1
  refine (sums_apply ![_, _, _, _, _, _, _, _, _, _, _, _, _, _, _, _] g k).trans (sums_of_blocks X1 _ (fun g k d => ?_) g k)
  fin_cases g <;> (show View.ld X1 (Rect.unit _ _ _) _ = _; pointwise; try rfl)

/-- Every point reads the whole codebook. -/
theorem codebook_block (c : Dev nD) (t : Fin cfg0.N) (g : Fin 16) (k : Fin 1024) (d : Fin 64) :
    iblk m c 1 t (ix3 g k d) = m ((c : Thread nD τ).loc main_arg1) (ix3 g k d) := by
  have idx : ∀ t : Fin cfg0.N, win0_1.index t = ![0, 0, 0] := (by decide +kernel : ∀ t : Fin grid0.N, _)
  blk_point [iblk, V, idx t]

/-- Point `t` reads rows `64 t` to `64 t + 63` of the first argument. -/
theorem rows_block (c : Dev nD) (t : Fin cfg0.N) (r : Fin 64) (l : Fin 1024) (h : t.val * 64 + r.val < 1024) :
    iblk m c 0 t (ix2 r l) = m ((c : Thread nD τ).loc main_arg0) (ix2 ⟨t.val * 64 + r.val, h⟩ l) := by
  have idx : ∀ t : Fin cfg0.N, win0_0.index t = ![t.val, 0] := (by decide +kernel : ∀ t : Fin grid0.N, _)
  blk_point [iblk, V, idx t]

/-- The scratch array after every point: the sums of the squares of the codewords' entries. -/
theorem scratch_all (c : Dev nD) (t : Fin cfg0.N) (g : Fin 16) (k : Fin 1024) :
    (outsAt0 m c t.val t.isLt).2.2 (ix2 g k)
      = ∑ d : Fin 64, (show EReal from m ((c : Thread nD τ).loc main_arg1) (ix3 g k d))
          * (show EReal from m ((c : Thread nD τ).loc main_arg1) (ix3 g k d)) := by
  obtain ⟨n, hn⟩ := t
  induction n with
  | zero =>
    refine (scratch_first m c ⟨0, hn⟩ rfl g k).trans (Finset.sum_congr rfl fun d _ => ?_)
    rw [codebook_block m c ⟨0, hn⟩ g k d]
  | succ n ih =>
    have hN : cfg0.N = 16 := N_0
    have hs : (outsAt0 m c (n + 1) hn).2.2 = (outsAt0 m c n (Nat.lt_of_succ_lt hn)).2.2 := by
      have := outsAt0_B m c ⟨n + 1, hn⟩ (by show ¬ (n + 1) % 16 = 0; omega)
      exact congrArg (·.2.2) this
    show (outsAt0 m c (n + 1) hn).2.2 (ix2 g k) = _
    rw [hs]
    exact ih (Nat.lt_of_succ_lt hn)

end Cert.KernelIdeal.Value
-- ==== Proof.Arrays.lean ====
/- The two arrays the grid leaves, from the two arguments. -/
module
public import proofs.«01_k».proof.Defs
public import proofs.«01_k».proof.Proof.Gen.KernelIdeal.Frame
public import proofs.«01_k».proof.Proof.Distance
public import proofs.«01_k».proof.Proof.Points
public import proofs.«01_k».proof.Proof.CodeSums
public import Idealize.ShloMosaic.Lib.Pipeline.ValueKit
public import Idealize.ShloMosaic.Lib.Pointwise
@[expose] public section
set_option maxRecDepth 16384
noncomputable section
namespace Cert.KernelIdeal.Value
open Idealize.ShloMosaic Idealize.ShloMosaic.TcCoe Idealize.SL.Sem
open Idealize.ShloMosaic.Pipeline (Dat)
open Cert.KernelIdeal Cert.KernelIdeal.Gen Cert.Quantizer
variable (m : (ℓ : Loc nD τ sig) → Buf (Elt Ideal) ℓ)

/-- The first argument: the rows. -/
abbrev rows (c : Dev nD) : FVec Ideal S1024x1024 .f32 := m ((c : Thread nD τ).loc main_arg0)
/-- The second argument: the codebook. -/
abbrev codes (c : Dev nD) : FVec Ideal S16x1024x64 .f32 := m ((c : Thread nD τ).loc main_arg1)

/-- A distance computed from point `t`'s blocks is the distance of the row it stands for. -/
theorem blkDist_eq (c : Dev nD) (t : Fin cfg0.N) (r : Fin 64) (g : Fin 16) (k : Fin 1024) (h : t.val * 64 + r.val < 1024) :
    blkDist (iblk m c 0 t) (iblk m c 1 t) (outsAt0 m c t.val t.isLt).2.2 r g k
      = sqDist (rows m c) (codes m c) ⟨t.val * 64 + r.val, h⟩ g k := by
  have hx : ∀ l : Fin 1024, iblk m c 0 t (ix2 r l) = rows m c (ix2 ⟨t.val * 64 + r.val, h⟩ l) := fun l => rows_block m c t r l h
  have hc : ∀ d : Fin 64, iblk m c 1 t (ix3 g k d) = codes m c (ix3 g k d) := fun d => codebook_block m c t g k d
  have hs : (outsAt0 m c t.val t.isLt).2.2 (ix2 g k) = ∑ d : Fin 64, codes m c (ix3 g k d) * codes m c (ix3 g k d) :=
    scratch_all m c t g k
  unfold blkDist sqDist
  refine congrArg₂ (· + ·) (congrArg₂ (· + ·) (Finset.sum_congr rfl fun d _ => ?_) (Finset.sum_congr rfl fun d _ => ?_)) hs
  · exact congrArg₂ (· * ·) (hx _) (hx _)
  · exact congrArg₂ (· * ·) (congrArg (· * _) (hx _)) (hc _)

/-- All the distances. -/
def allDist (X : FVec Ideal S1024x1024 .f32) (C : FVec Ideal S16x1024x64 .f32) : FVec Ideal S1024x16x1024 .f32 :=
  fun i => sqDist X C (i 0) (i 1) (i 2)

/-- For each row and group, the position of the first codeword at the least distance. -/
def allFirst (X : FVec Ideal S1024x1024 .f32) (C : FVec Ideal S16x1024x64 .f32) : IVec S1024x16 32 :=
  fun i => firstMin fun k => sqDist X C (i 0) (i 1) k

/-- The array of distances after the whole grid. -/
theorem dist_array (c : Dev nD) : (dats m 0 c).arrAt 2 cfg0.N = allDist (rows m c) (codes m c) := by
  have idx : ∀ t : Fin cfg0.N, win0_2.index t = ![t.val, 0, 0] := (by decide +kernel : ∀ t : Fin grid0.N, _)
  refine (dats m 0 c).arrAt_eq_of_covers 2 _ (by decide +kernel) fun t hf y => ?_
  blk_simp
  rw [after0_2]
  have ht : t.val < 16 := Nat.lt_of_lt_of_eq t.isLt N_0
  have hy : (y 0).val < 64 := (y 0).isLt
  have e : (win0_2.blk t).view.emb y = ix3 ⟨t.val * 64 + (y 0).val, by omega⟩ (y 1) (y 2) := by blk_ext [idx t]
  rw [e]
  exact (distances m c t y).trans (blkDist_eq m c t (y 0) (y 1) (y 2) (by omega))

/-- The array of positions after the whole grid. -/
theorem first_array (c : Dev nD) : (dats m 0 c).arrAt 3 cfg0.N = allFirst (rows m c) (codes m c) := by
  have idx : ∀ t : Fin cfg0.N, win0_3.index t = ![t.val, 0] := (by decide +kernel : ∀ t : Fin grid0.N, _)
  refine (dats m 0 c).arrAt_eq_of_covers 3 _ (by decide +kernel) fun t hf y => ?_
  blk_simp
  rw [after0_3]
  have ht : t.val < 16 := Nat.lt_of_lt_of_eq t.isLt N_0
  have hy : (y 0).val < 64 := (y 0).isLt
  have e : (win0_3.blk t).view.emb y = ix2 ⟨t.val * 64 + (y 0).val, by omega⟩ (y 1) := by blk_ext [idx t]
  rw [e]
  exact (positions m c t y).trans (congrArg firstMin (funext fun k => blkDist_eq m c t (y 0) (y 1) k (by omega)))

end Cert.KernelIdeal.Value
-- ==== Proof.RefValue.lean ====
/- What the reference's two results hold at an element. -/
module
public import proofs.«01_k».proof.Defs
public import proofs.«01_k».proof.Proof.ArgMin
public import proofs.«01_k».proof.Proof.Distance
public import Idealize.ShloMosaic.Lib.Pointwise
public import Idealize.ShloMosaic.Lib.WordCmp
@[expose] public section
set_option maxRecDepth 16384
noncomputable section
namespace Cert.ReferenceIdeal.Value
open Idealize.ShloMosaic Idealize.ShloMosaic.TcCoe Idealize.SL.Sem
open Cert.ReferenceIdeal Cert.Quantizer

/-- The reference's reduction over the codewords, read at (row, group): the first position of the least entry. -/
theorem argmin_apply (X : FVec Ideal S1024x16x1024 .f32) (Y : IVec S1024x16x1024 32) (ix : FVec Ideal S_ .f32) (iy : IVec S_ 32)
    (h : S1024x16x1024.ReducesTo [2] S1024x16) (hu : 0 < S_.numel)
    (hY : ∀ b c k, Y (ix3 b c k) = BitVec.ofNat 32 k.val) (hix : ∀ i, ix i = ⊤) (hiy : ∀ i, iy i = 0#32)
    (b : Fin 1024) (c : Fin 16) :
    (Host.argReduce reducer_argmin_f32_i32 X Y ix iy h hu (ix2 b c)).2 = firstMin (fun k => X (ix3 b c k)) := by
  rw [Ideal.argReduce_eq_reduce2, Host.reduce2_eq_foldl_fiber, hix, hiy]
  rw [show (reducer_argmin_f32_i32 (F := Ideal)) = lesser from funext fun p => funext fun q => reducer_eq p q]
  refine foldl_lesser_eq _ _ fun p => ?_
  have hd : ∀ i : S1024x16x1024.Idx, h.drop i = ix2 b c ↔ i = ix3 b c (i 2) := by
    intro i
    have hv0 : (h.drop i 0 : Nat) = i 0 := Shape.ReducesTo.drop_apply_val h i 0
    have hv1 : (h.drop i 1 : Nat) = i 1 := Shape.ReducesTo.drop_apply_val h i 1
    constructor
    · intro e
      have e0 : i 0 = b := Fin.ext (by rw [← hv0, e]; rfl)
      have e1 : i 1 = c := Fin.ext (by rw [← hv1, e]; rfl)
      refine (eq_ix3 i).trans ?_
      rw [e0, e1]
      rfl
    · intro e
      rw [eq_ix2 (h.drop i)]
      exact congrArg₂ ix2 (Fin.ext (hv0.trans (by rw [e]; rfl))) (Fin.ext (hv1.trans (by rw [e]; rfl)))
  simp only [Host.argReduceFiber, List.mem_map, List.mem_filter, List.mem_finRange, true_and, decide_eq_true_eq, hd]
  constructor
  · rintro ⟨n, hn, rfl⟩
    exact ⟨S1024x16x1024.rowMajor.symm n 2, Prod.ext (congrArg X hn) ((congrArg Y hn).trans (hY b c _))⟩
  · rintro ⟨k, rfl⟩
    refine ⟨S1024x16x1024.rowMajor (ix3 b c k), ?_, ?_⟩
    · rw [Equiv.symm_apply_apply]; rfl
    · rw [Equiv.symm_apply_apply, hY]

variable [Facts₀]
open Facts₀

/-- The reference's distances, as it composes them. -/
def refDist (X : FVec Ideal S1024x1024 .f32) (C : FVec Ideal S16x1024x64 .f32) : FVec Ideal S1024x16x1024 .f32 :=
  addf (subf (broadcastInDim S1024x16x1024 ![0, 1, 2] bcast_S1024x16x1_S1024x16x1024_0_1_2
      (broadcastInDim S1024x16x1 ![0, 1] bcast_S1024x16_S1024x16x1_0_1
        (Host.reduceAdd (mulf (shapeCast S1024x16x64 X shapeCasts_S1024x1024_S1024x16x64)
          (shapeCast S1024x16x64 X shapeCasts_S1024x1024_S1024x16x64)) (constant S_ .f32 0x00000000#32)
          reducesTo_S1024x16x64_S1024x16_d2 h_S_)))
      (mulf (broadcastInDim S1024x16x1024 ![] bcast_S_S1024x16x1024 (constant S_ .f32 0x40000000#32))
        (transpose S1024x16x1024 [2, 0, 1] (Host.dotGeneral dot_S16x1024x64_S1024x16x64_S16x1024x1024_2_2_1_0_0_1 none C
          (shapeCast S1024x16x64 X shapeCasts_S1024x1024_S1024x16x64)) transposes_S16x1024x1024_S1024x16x1024_2_0_1)))
    (broadcastInDim S1024x16x1024 ![0, 1, 2] bcast_S1x16x1024_S1024x16x1024_0_1_2
      (broadcastInDim S1x16x1024 ![1, 2] bcast_S16x1024_S1x16x1024_1_2
        (Host.reduceAdd (mulf C C) (constant S_ .f32 0x00000000#32) reducesTo_S16x1024x64_S16x1024_d2 h_S_)))

/-- The reference's distance of row `b` to codeword `k` of group `c`. -/
theorem refDist_apply (X : FVec Ideal S1024x1024 .f32) (C : FVec Ideal S16x1024x64 .f32) (b : Fin 1024) (c : Fin 16)
    (k : Fin 1024) : refDist X C (ix3 b c k)
      = (∑ d : Fin 64, X (ix2 b ⟨c.val * 64 + d.val, by omega⟩) * X (ix2 b ⟨c.val * 64 + d.val, by omega⟩)
          - Ideal.ofBits .f32 0x40000000#32 * ∑ d : Fin 64, C (ix3 c k d) * X (ix2 b ⟨c.val * 64 + d.val, by omega⟩))
        + ∑ d : Fin 64, C (ix3 c k d) * C (ix3 c k d) := by
  pointwise [refDist]

/-- On finite inputs the reference's distance is the kernel's: minus twice the sum of the products is the sum of the
    products with minus two times the entries. -/
theorem refDist_eq_dist (X : FVec Ideal S1024x1024 .f32) (C : FVec Ideal S16x1024x64 .f32)
    (hX : ∀ b l, ∃ r : ℝ, X (ix2 b l) = r) (hC : ∀ c k d, ∃ r : ℝ, C (ix3 c k d) = r)
    (b : Fin 1024) (c : Fin 16) (k : Fin 1024) : refDist X C (ix3 b c k) = sqDist X C b c k := by
  rw [refDist_apply, sqDist, sub_two_mul]
  · exact fun d => hX b _
  · exact fun d => hC c k d

/-- The reference's positions, as it composes them. -/
def refFirst (D : FVec Ideal S1024x16x1024 .f32) : IVec S1024x16x1 32 :=
  broadcastInDim S1024x16x1 ![0, 1] bcast_S1024x16_S1024x16x1_0_1
    (fun j => (Host.argReduce reducer_argmin_f32_i32 D (iotaInDim S1024x16x1024 32 2) (constant S_ .f32 0x7F800000#32)
      (constantI S_ 32 0#32) reducesTo_S1024x16x1024_S1024x16_d2 h_S_ j).2)

/-- An axis of one entry appended: the array is read at the other two coordinates. -/
theorem append_axis (Y : IVec S1024x16 32) (i : S1024x16x1.Idx) :
    broadcastInDim S1024x16x1 ![0, 1] bcast_S1024x16_S1024x16x1_0_1 Y i = Y (ix2 (i 0) (i 1)) := by
  pointwise

/-- For row `b` and group `c` the reference returns the position of the first codeword at the least distance. -/
theorem refFirst_apply (D : FVec Ideal S1024x16x1024 .f32) (i : S1024x16x1.Idx) :
    refFirst D i = firstMin (fun k => D (ix3 (i 0) (i 1) k)) := by
  unfold refFirst
  rw [append_axis]
  exact argmin_apply D _ _ _ _ _ (fun b c k => by pointwise) (fun _ => ofBits_inf) (fun _ => rfl) (i 0) (i 1)

end Cert.ReferenceIdeal.Value
-- ==== Proof.Ends.lean ====
/- What the precondition says of the arguments, and the second result as the last host operation leaves it. -/
module
public import proofs.«01_k».proof.Defs
public import proofs.«01_k».proof.Proof.Gen.Pre_finite
public import proofs.«01_k».proof.Proof.Arrays
public import proofs.«01_k».proof.Proof.RefValue
public import Idealize.ShloMosaic.Lib.Pipeline.FrameTail
public import Idealize.ShloMosaic.Lib.Claim
@[expose] public section
set_option maxRecDepth 16384
noncomputable section
namespace Cert.KernelIdeal.Value
open Idealize.ShloMosaic Idealize.ShloMosaic.TcCoe Idealize.SL.Sem
open Idealize.ShloMosaic.Pipeline (Dat)
open Cert.KernelIdeal Cert.KernelIdeal.Gen Cert.Quantizer
variable (m : (ℓ : Loc nD τ sig) → Buf (Elt Ideal) ℓ)

/-- Under the precondition every entry of the first argument is a real number. -/
theorem rows_real [Cert.Pre_finite.Facts] (hp : Pre_KernelIdeal_finite m) (c : Dev nD) (b l : Fin 1024) :
    ∃ r : ℝ, rows m c (ix2 b l) = r :=
  exists_real _ (congrFun (hp c).1 (ix2 b l))

/-- Under the precondition every entry of the codebook is a real number. -/
theorem codes_real [Cert.Pre_finite.Facts] (hp : Pre_KernelIdeal_finite m) (c : Dev nD) (g : Fin 16) (k : Fin 1024) (d : Fin 64) :
    ∃ r : ℝ, codes m c (ix3 g k d) = r :=
  exists_real _ (congrFun (hp c).2 (ix3 g k d))

/-- The second result: the array of positions with an axis of one entry appended. -/
theorem second_result (c : Dev nD) (i : S1024x16x1.Idx) :
    (show BitVec 32 from Pipeline.afterTail₀ cfgs (dats m) 0 (V0 m) [hostOps1] c main_v1 i)
      = allFirst (rows m c) (codes m c) (ix2 (i 0) (i 1)) := by
  unfold Pipeline.afterTail₀
  simp only [List.flatten_cons, List.flatten_nil, List.append_nil]
  after_region_results
  erw [Pipeline.withArrays_arr _ launch0.win.arr_inj c (V0 m c) _ 3]
  refine Eq.trans ?_ (congrFun (first_array m c) (ix2 (i 0) (i 1)))
  pointwise

/-- Under the precondition the reference's distances are the kernel's. -/
theorem refDist_all [Cert.Pre_finite.Facts] [Cert.ReferenceIdeal.Facts₀] (hp : Pre_KernelIdeal_finite m) (c : Dev nD) :
    Cert.ReferenceIdeal.Value.refDist (rows m c) (codes m c) = allDist (rows m c) (codes m c) := by
  funext i
  rw [eq_ix3 i]
  exact Cert.ReferenceIdeal.Value.refDist_eq_dist _ _ (fun b l => rows_real m hp c b l) (fun g k d => codes_real m hp c g k d)
    (i 0) (i 1) (i 2)

end Cert.KernelIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Ends
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel Cert.Quantizer

/-- The reference runs, leaves its arguments as they were, and ends with every semaphore at zero. -/
theorem frame_reference : Cert.quiescent_ReferenceIdeal := by
  intro m g _
  hlo_run
  · exact fun _ => ⟨trivial, trivial⟩
  · exact sem_eq_zero_of_no_sems (sig := Cert.ReferenceIdeal.sig) rfl _

/-- On finite arguments the kernel and the reference return the same distances and the same positions. -/
theorem algebraic : Cert.algebraic_KernelIdeal_ReferenceIdeal_pre_finite := by
  pair_intro
  · run_from Cert.KernelIdeal.Gen.run_main m g
  · hlo_run
    · exact (Cert.KernelIdeal.Value.refDist_all m hpre c).trans (Cert.KernelIdeal.Value.dist_array m c).symm
    · funext i
      refine Eq.trans ?_ (Cert.KernelIdeal.Value.second_result m c i).symm
      exact (Cert.ReferenceIdeal.Value.refFirst_apply (Cert.ReferenceIdeal.Value.refDist
        (Cert.KernelIdeal.Value.rows m c) (Cert.KernelIdeal.Value.codes m c)) i).trans
        (congrArg firstMin (funext fun k => congrFun (Cert.KernelIdeal.Value.refDist_all m hpre c) (ix3 (i 0) (i 1) k)))

/-- Everything this certificate claims. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
